-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x768x24x24 : Shape := ⟨4, ![64, 768, 24, 24]⟩
abbrev S2 : Shape := ⟨1, ![2]⟩
abbrev S16x768x4x4 : Shape := ⟨4, ![16, 768, 4, 4]⟩
abbrev S_ : Shape := ⟨0, ![]⟩

class Facts : Prop where
  bcast_S_S64x768x24x24 : S_.BroadcastsInDim S64x768x24x24 (![] : Fin 0 → Fin S64x768x24x24.rank)
  reducesTo_S64x768x24x24_S_d0_1_2_3 : S64x768x24x24.ReducesTo [0, 1, 2, 3] S_
  h_S_ : 0 < S_.numel
  bcast_S_S16x768x4x4 : S_.BroadcastsInDim S16x768x4x4 (![] : Fin 0 → Fin S16x768x4x4.rank)
  reducesTo_S16x768x4x4_S_d0_1_2_3 : S16x768x4x4.ReducesTo [0, 1, 2, 3] S_

variable [Facts]

def fn {F : FTy → Type} [FloatOps F] (main_arg0 : FVec F S64x768x24x24 .f32) (main_arg1 : IVec S2 32) (main_arg2 : FVec F S16x768x4x4 .f32) : IVec S_ 1 :=
  let main_v0 : FVec F S64x768x24x24 .f32 := Host.absf main_arg0
  let main_cst : FVec F S_ .f32 := constant S_ .f32 0x7F800000#32
  let main_v1 : FVec F S64x768x24x24 .f32 := broadcastInDim S64x768x24x24 ![] bcast_S_S64x768x24x24 main_cst
  let main_v2 : IVec S64x768x24x24 1 := cmpf .olt main_v0 main_v1
  let main_c : IVec S_ 1 := constantI S_ 1 1#1
  let main_v3 : IVec S_ 1 := (fun x v => Host.reduce IntOp.andi x v reducesTo_S64x768x24x24_S_d0_1_2_3 h_S_) main_v2 main_c
  let main_v4 : FVec F S16x768x4x4 .f32 := Host.absf main_arg2
  let main_cst_0 : FVec F S_ .f32 := constant S_ .f32 0x7F800000#32
  let main_v5 : FVec F S16x768x4x4 .f32 := broadcastInDim S16x768x4x4 ![] bcast_S_S16x768x4x4 main_cst_0
  let main_v6 : IVec S16x768x4x4 1 := cmpf .olt main_v4 main_v5
  let main_c_1 : IVec S_ 1 := constantI S_ 1 1#1
  let main_v7 : IVec S_ 1 := (fun x v => Host.reduce IntOp.andi x v reducesTo_S16x768x4x4_S_d0_1_2_3 h_S_) main_v6 main_c_1
  let main_v8 : IVec S_ 1 := andi main_v3 main_v7
  main_v8
-- ==== Kernel.lean ====
abbrev S64x768x24x24 : Shape := ⟨4, ![64, 768, 24, 24]⟩
abbrev S2 : Shape := ⟨1, ![2]⟩
abbrev S16x768x4x4 : Shape := ⟨4, ![16, 768, 4, 4]⟩
abbrev S256x576 : Shape := ⟨2, ![256, 576]⟩
abbrev S16x256 : Shape := ⟨2, ![16, 256]⟩
abbrev S576x36 : Shape := ⟨2, ![576, 36]⟩
abbrev S64x768x576 : Shape := ⟨3, ![64, 768, 576]⟩
abbrev S4x16x4x768 : Shape := ⟨4, ![4, 16, 4, 768]⟩
abbrev S256x768 : Shape := ⟨2, ![256, 768]⟩
abbrev S64x36x2 : Shape := ⟨3, ![64, 36, 2]⟩
abbrev S64x36x16 : Shape := ⟨3, ![64, 36, 16]⟩
abbrev S8x768x576 : Shape := ⟨3, ![8, 768, 576]⟩
abbrev S8x36x2 : Shape := ⟨3, ![8, 36, 2]⟩
abbrev S8x36x16 : Shape := ⟨3, ![8, 36, 16]⟩
abbrev S1x768x576 : Shape := ⟨3, ![1, 768, 576]⟩
abbrev S768x576 : Shape := ⟨2, ![768, 576]⟩
abbrev S16x576 : Shape := ⟨2, ![16, 576]⟩
abbrev S16x36 : Shape := ⟨2, ![16, 36]⟩
abbrev S16x288 : Shape := ⟨2, ![16, 288]⟩
abbrev S288x16 : Shape := ⟨2, ![288, 16]⟩
abbrev S288 : Shape := ⟨1, ![288]⟩
abbrev S288x1 : Shape := ⟨2, ![288, 1]⟩
abbrev S288x2 : Shape := ⟨2, ![288, 2]⟩

abbrev nBuf : Space → Nat
  | .hbm => 12
  | .vmem => 12
  | .smem => 0
  | _ => 0

abbrev bufTy : (tb : Table) → Fin (tcTables nBuf tb) → BufTy
  | .hbm, ⟨0, _⟩ => ⟨S64x768x24x24, .f32⟩
  | .hbm, ⟨1, _⟩ => ⟨S2, .i32⟩
  | .hbm, ⟨2, _⟩ => ⟨S16x768x4x4, .f32⟩
  | .hbm, ⟨3, _⟩ => ⟨S256x576, .f32⟩
  | .hbm, ⟨4, _⟩ => ⟨S16x256, .f32⟩
  | .hbm, ⟨5, _⟩ => ⟨S576x36, .f32⟩
  | .hbm, ⟨6, _⟩ => ⟨S64x768x576, .f32⟩
  | .hbm, ⟨7, _⟩ => ⟨S4x16x4x768, .f32⟩
  | .hbm, ⟨8, _⟩ => ⟨S256x768, .f32⟩
  | .hbm, ⟨9, _⟩ => ⟨S64x36x2, .f32⟩
  | .hbm, ⟨10, _⟩ => ⟨S64x36x2, .i32⟩
  | .hbm, ⟨11, _⟩ => ⟨S64x36x16, .f32⟩
  | .local _ .vmem, ⟨0, _⟩ => ⟨S8x768x576, .f32⟩
  | .local _ .vmem, ⟨1, _⟩ => ⟨S8x768x576, .f32⟩
  | .local _ .vmem, ⟨2, _⟩ => ⟨S256x768, .f32⟩
  | .local _ .vmem, ⟨3, _⟩ => ⟨S256x576, .f32⟩
  | .local _ .vmem, ⟨4, _⟩ => ⟨S16x256, .f32⟩
  | .local _ .vmem, ⟨5, _⟩ => ⟨S576x36, .f32⟩
  | .local _ .vmem, ⟨6, _⟩ => ⟨S8x36x2, .f32⟩
  | .local _ .vmem, ⟨7, _⟩ => ⟨S8x36x2, .f32⟩
  | .local _ .vmem, ⟨8, _⟩ => ⟨S8x36x2, .i32⟩
  | .local _ .vmem, ⟨9, _⟩ => ⟨S8x36x2, .i32⟩
  | .local _ .vmem, ⟨10, _⟩ => ⟨S8x36x16, .f32⟩
  | .local _ .vmem, ⟨11, _⟩ => ⟨S8x36x16, .f32⟩
  | _, _ => ⟨S64x768x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x768x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S576x36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x36x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x36x2 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x36x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S64x768x24x24 : Shape := ⟨4, ![64, 768, 24, 24]⟩
abbrev S2 : Shape := ⟨1, ![2]⟩
abbrev S16x768x4x4 : Shape := ⟨4, ![16, 768, 4, 4]⟩
abbrev S64x768x6x4x6x4 : Shape := ⟨6, ![64, 768, 6, 4, 6, 4]⟩
abbrev S64x6x6x768x4x4 : Shape := ⟨6, ![64, 6, 6, 768, 4, 4]⟩
abbrev S64x36x12288 : Shape := ⟨3, ![64, 36, 12288]⟩
abbrev S16x12288 : Shape := ⟨2, ![16, 12288]⟩
abbrev S12288x16 : Shape := ⟨2, ![12288, 16]⟩
abbrev S64x36x16 : Shape := ⟨3, ![64, 36, 16]⟩
abbrev S_ : Shape := ⟨0, ![]⟩
abbrev S64x36 : Shape := ⟨2, ![64, 36]⟩
abbrev S64x36x1 : Shape := ⟨3, ![64, 36, 1]⟩
abbrev S64x36x2 : Shape := ⟨3, ![64, 36, 2]⟩

abbrev nBuf : Space → Nat
  | .hbm => 33
  | .vmem => 0
  | .smem => 0
  | _ => 0

abbrev bufTy : (tb : Table) → Fin (tcTables nBuf tb) → BufTy
  | .hbm, ⟨0, _⟩ => ⟨S64x768x24x24, .f32⟩
  | .hbm, ⟨1, _⟩ => ⟨S2, .i32⟩
  | .hbm, ⟨2, _⟩ => ⟨S16x768x4x4, .f32⟩
  | .hbm, ⟨3, _⟩ => ⟨S64x768x6x4x6x4, .f32⟩
  | .hbm, ⟨4, _⟩ => ⟨S64x6x6x768x4x4, .f32⟩
  | .hbm, ⟨5, _⟩ => ⟨S64x36x12288, .f32⟩
  | .hbm, ⟨6, _⟩ => ⟨S16x12288, .f32⟩
  | .hbm, ⟨7, _⟩ => ⟨S12288x16, .f32⟩
  | .hbm, ⟨8, _⟩ => ⟨S64x36x16, .f32⟩
  | .hbm, ⟨9, _⟩ => ⟨S_, .f32⟩
  | .hbm, ⟨10, _⟩ => ⟨S64x36, .f32⟩
  | .hbm, ⟨11, _⟩ => ⟨S_, .f32⟩
  | .hbm, ⟨12, _⟩ => ⟨S64x36, .f32⟩
  | .hbm, ⟨13, _⟩ => ⟨S64x36, .f32⟩
  | .hbm, ⟨14, _⟩ => ⟨S64x36x1, .f32⟩
  | .hbm, ⟨15, _⟩ => ⟨S64x36x16, .f32⟩
  | .hbm, ⟨16, _⟩ => ⟨S64x36x16, .f32⟩
  | .hbm, ⟨17, _⟩ => ⟨S64x36x16, .f32⟩
  | .hbm, ⟨18, _⟩ => ⟨S_, .f32⟩
  | .hbm, ⟨19, _⟩ => ⟨S64x36, .f32⟩
  | .hbm, ⟨20, _⟩ => ⟨S64x36x1, .f32⟩
  | .hbm, ⟨21, _⟩ => ⟨S64x36x16, .f32⟩
  | .hbm, ⟨22, _⟩ => ⟨S64x36x16, .f32⟩
  | .hbm, ⟨23, _⟩ => ⟨S64x36x2, .f32⟩
  | .hbm, ⟨24, _⟩ => ⟨S64x36x2, .i32⟩
  | .hbm, ⟨25, _⟩ => ⟨S_, .f32⟩
  | .hbm, ⟨26, _⟩ => ⟨S64x36, .f32⟩
  | .hbm, ⟨27, _⟩ => ⟨S64x36x1, .f32⟩
  | .hbm, ⟨28, _⟩ => ⟨S_, .f32⟩
  | .hbm, ⟨29, _⟩ => ⟨S64x36x1, .f32⟩
  | .hbm, ⟨30, _⟩ => ⟨S64x36x1, .f32⟩
  | .hbm, ⟨31, _⟩ => ⟨S64x36x2, .f32⟩
  | .hbm, ⟨32, _⟩ => ⟨S64x36x2, .f32⟩
  | _, _ => ⟨S64x768x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Row.lean ====
/- One row of routing scores: the two greatest entries, ties to the lower position.

   A row is a function on the sixteen positions with values in the extended reals. This file says what the first and the
   second place of a row are (`IsTop`, `IsTopTwo`), and shows the two ways of finding them agree with it: the running
   maximum with the least position that attains it, repeated after the first place was struck out by a negative number
   (`fold_max_eq`, `fold_min_eq`, `topTwo_of_struck`), and the stable sort by "greater" cut to two entries
   (`sortedFrom_eq`). -/
module

public import Idealize.ShloMosaic.Lib.SortPrefix
public import Idealize.ShloMosaic.Lib.Pointwise

@[expose] public section

noncomputable section

namespace Cert.Proof.Row

open Idealize.ShloMosaic

variable {n : Nat}

/-- Position `i` holds the row's greatest entry, and no lower position does. -/
def IsTop (p : Fin n → EReal) (i : Fin n) : Prop := (∀ j, p j ≤ p i) ∧ ∀ j, j < i → p j < p i

/-- Position `i` is the row's first place, and position `j` is the first place among the other positions. -/
def IsTopTwo (p : Fin n → EReal) (i j : Fin n) : Prop :=
  IsTop p i ∧ j ≠ i ∧ (∀ k, k ≠ i → p k ≤ p j) ∧ ∀ k, k ≠ i → k < j → p k < p j

/-- Every row with a position has a first place: the greatest entry by value and then by position, lower first. -/
theorem exists_isTop [NeZero n] (p : Fin n → EReal) : ∃ i, IsTop p i := by
  classical
  obtain ⟨i₀, -, h₀⟩ := Finset.exists_max_image (Finset.univ : Finset (Fin n)) p ⟨0, Finset.mem_univ _⟩
  obtain ⟨i, hi, hmin⟩ := Finset.exists_min_image ((Finset.univ : Finset (Fin n)).filter fun k => p k = p i₀) id
    ⟨i₀, by simp⟩
  have hp : p i = p i₀ := (Finset.mem_filter.mp hi).2
  refine ⟨i, fun j => hp ▸ h₀ j (Finset.mem_univ j), fun j hj => ?_⟩
  refine lt_of_le_of_ne (hp ▸ h₀ j (Finset.mem_univ j)) fun h => ?_
  have := hmin j (Finset.mem_filter.mpr ⟨Finset.mem_univ j, h.trans hp⟩)
  exact absurd hj (not_lt.mpr this)

/-- The maximum over the row, from the least extended real, is the entry in the first place. -/
theorem fold_max_eq {p : Fin n → EReal} {i : Fin n} (h : ∀ j, p j ≤ p i) : (Finset.univ : Finset (Fin n)).fold max ⊥ p = p i := by
  refine le_antisymm ((Finset.fold_max_le _).mpr ⟨bot_le, fun x _ => h x⟩) ?_
  exact (Finset.le_fold_max _).mpr (Or.inr ⟨i, Finset.mem_univ i, le_rfl⟩)

/-- A running signed minimum of words, read as an integer, is at most a number exactly when its start or one of the words is. -/
theorem toInt_fold_minsi_le {ι : Type} (s : Finset ι) (b : BitVec 32) (f : ι → BitVec 32) (c : Int) :
    (s.fold IntOp.minsi b f).toInt ≤ c ↔ b.toInt ≤ c ∨ ∃ k ∈ s, (f k).toInt ≤ c := by
  classical
  induction s using Finset.induction_on with
  | empty => simp
  | insert a s ha ih =>
    rw [Finset.fold_insert ha]
    have hmin : (IntOp.minsi (f a) (s.fold IntOp.minsi b f)).toInt ≤ c ↔ (f a).toInt ≤ c ∨ (s.fold IntOp.minsi b f).toInt ≤ c := by
      unfold IntOp.minsi
      simp only [BitVec.slt, decide_eq_true_eq]
      split <;> omega
    rw [hmin, ih]
    simp only [Finset.mem_insert, exists_eq_or_imp]
    tauto

/-- The least of the words that number the positions attaining the first place's entry (every other position offering a
    word past all of them, and the start being greater still) is the first place's number. -/
theorem fold_min_eq {p : Fin 16 → EReal} {i : Fin 16} (h : IsTop p i) (f : Fin 16 → BitVec 32)
    (hf : ∀ k, f k = if p k = p i then BitVec.ofNat 32 k else 16#32) :
    (Finset.univ : Finset (Fin 16)).fold IntOp.minsi 2147483647#32 f = BitVec.ofNat 32 i := by
  have hw : ∀ k : Fin 16, (BitVec.ofNat 32 k.val).toInt = k.val := by decide
  refine BitVec.eq_of_toInt_eq (le_antisymm ?_ ?_)
  · refine (toInt_fold_minsi_le _ _ _ _).mpr (Or.inr ⟨i, Finset.mem_univ i, ?_⟩)
    rw [hf i, if_pos rfl]
  · by_contra hlt
    rw [not_le] at hlt
    have h1 := (toInt_fold_minsi_le Finset.univ 2147483647#32 f _).mp (Int.le_sub_one_of_lt hlt)
    rw [hw i] at h1
    have hi := i.isLt
    rcases h1 with h1 | ⟨k, -, h1⟩
    · have : (2147483647#32 : BitVec 32).toInt = 2147483647 := by decide
      omega
    · rw [hf k] at h1
      split at h1
      · next hk =>
        rw [hw k] at h1
        have hlt' : k < i := Fin.lt_def.mpr (by omega)
        exact absurd hk (ne_of_lt (h.2 k hlt'))
      · have : (16#32 : BitVec 32).toInt = 16 := by decide
        omega

/-- Two positions of a row of sixteen are numbered by the same word exactly when they are the same. -/
theorem word_eq_iff (a b : Fin 16) : BitVec.ofNat 32 a.val = BitVec.ofNat 32 b.val ↔ a = b := by
  revert a b; decide

/-- Once the first place of a row without negative entries is struck out by a negative number, the first place of what
    is left is the second place of the row, at its own entry. -/
theorem topTwo_of_struck {p p' : Fin 16 → EReal} {i j : Fin 16} {c : EReal} (hp : ∀ k, 0 ≤ p k) (hc : c < 0)
    (hi : IsTop p i) (hp' : ∀ k, p' k = if k = i then c else p k) (hj : IsTop p' j) : IsTopTwo p i j ∧ p' j = p j := by
  have hne : j ≠ i := by
    rintro rfl
    obtain ⟨k, hk⟩ : ∃ k : Fin 16, k ≠ j := by
      by_cases h : j = 0
      · exact ⟨1, by rw [h]; decide⟩
      · exact ⟨0, Ne.symm h⟩
    have h1 := hj.1 k
    rw [hp' k, hp' j, if_neg hk, if_pos rfl] at h1
    exact absurd (lt_of_le_of_lt ((hp k).trans h1) hc) (lt_irrefl _)
  have hpj : p' j = p j := by rw [hp' j, if_neg hne]
  refine ⟨⟨hi, hne, fun k hk => ?_, fun k hk hkj => ?_⟩, hpj⟩
  · have := hj.1 k; rwa [hp' k, if_neg hk, hpj] at this
  · have := hj.2 k hkj; rwa [hp' k, if_neg hk, hpj] at this

/-! ## The stable sort by "greater" -/

/-- Inserting by two comparators that agree on the list against the inserted element gives one list. -/
theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b List.mem_cons_self, ih fun x hx => h x (List.mem_cons_of_mem _ hx)]

/-- Sorting stably by two comparators that agree whenever the first argument stands after the second gives one list. -/
theorem stableSort_congr {ι : Type} (P : ι → ι → Prop) (B B' : ι → ι → Bool) (h : ∀ a b, P a b → B b a = B' b a)
    (l : List ι) (hl : l.Pairwise P) : stableSort B l = stableSort B' l := by
  induction l with
  | nil => rfl
  | cons a l ih =>
    obtain ⟨ha, hl'⟩ := List.pairwise_cons.mp hl
    show insertBefore B a (stableSort B l) = insertBefore B' a (stableSort B' l)
    rw [ih hl']
    exact insertBefore_congr B B' a _ fun b hb => h a b (ha b ((perm_stableSort _ l).mem_iff.mp hb))

/-- The order of the sort, written out: greater entries first, equal entries by position. -/
def before (p : Fin n → EReal) (k k' : Fin n) : Bool :=
  decide (p k' < p k) || (decide (p k = p k') && decide (k < k'))

/-- It is a strict total order on the positions. -/
theorem before_total (p : Fin n → EReal) : StrictTotalBefore (before p) :=
  StrictTotalBefore.of_key_then_position (n := n) (κ := EReal) (fun a b => decide (b < a)) p
    (fun a => by simp) (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)

/-- The stable sort by "greater" alone takes its entries from where the order written out takes them. -/
theorem sortedFrom_eq_before (p : Fin n → EReal) (B : Fin n → Fin n → Bool) (hB : ∀ k k', B k k' = decide (p k' < p k)) (i : Fin n) :
    sortedFrom B i = sortedFrom (before p) i := by
  have h : sortPositions n B = sortPositions n (before p) := by
    refine stableSort_congr (· < ·) _ _ (fun a b hab => ?_) _ (List.pairwise_lt_finRange n)
    rw [hB]
    unfold before
    simp [not_lt_of_gt hab]
  unfold sortedFrom
  rw [List.get_of_eq h]
  rfl

/-- The first two entries of the stable sort by "greater" come from the row's first and second place. -/
theorem sortedFrom_eq {p : Fin n → EReal} {i j : Fin n} (h : IsTopTwo p i j) (B : Fin n → Fin n → Bool)
    (hB : ∀ k k', B k k' = decide (p k' < p k)) (hn : 2 ≤ n) (s : Fin 2) :
    sortedFrom B (s.castLE hn) = (![i, j] : Fin 2 → Fin n) s := by
  obtain ⟨hi, hne, hj, hj'⟩ := h
  rw [sortedFrom_eq_before p B hB]
  have key : ∀ a b : Fin n, p b ≤ p a → (b < a → p b < p a) → before p b a = false := by
    intro a b h1 h2
    unfold before
    simp only [Bool.or_eq_false_iff, Bool.and_eq_false_iff, decide_eq_false_iff_not, not_lt]
    refine ⟨h1, ?_⟩
    by_cases hb : b < a
    · exact Or.inl (ne_of_lt (h2 hb))
    · exact Or.inr (not_lt.mp hb)
  refine (before_total p).sortedFrom_eq_of_prefix hn ![i, j] ?_ ?_ ?_ s
  · intro a b hab
    fin_cases a <;> fin_cases b <;> simp_all
  · intro a b hab
    fin_cases a <;> fin_cases b <;> simp at hab ⊢
    exact key i j (hi.1 j) (hi.2 j)
  · intro a q hq
    have hqi : q ≠ i := fun e => hq 0 e.symm
    fin_cases a
    · exact key i q (hi.1 q) (hi.2 q)
    · exact key j q (hj q hqi) (hj' q hqi)

end Cert.Proof.Row

end
-- ==== Proof.Softmax.lean ====
/- The softmax of one row of sixteen real numbers: none of its entries is negative. -/
module

public import proofs.«01_k».proof.Proof.Row
public import Idealize.ShloMosaic.Lib.IdealHost

@[expose] public section

noncomputable section

namespace Cert.Proof.Row

open Idealize.ShloMosaic

/-- The greatest entry of a row. -/
def greatest (z : Fin 16 → EReal) : EReal := (Finset.univ : Finset (Fin 16)).fold max ⊥ z

/-- The softmax of a row, at a position. -/
def soft (z : Fin 16 → EReal) (e : Fin 16) : EReal :=
  Ideal.div (Ideal.exp (z e - greatest z)) (∑ k, Ideal.exp (z k - greatest z))

/-- A sum of real numbers is the same in the extended reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The softmax of a row of real numbers is nowhere negative: a positive number over a sum of positive numbers. -/
theorem soft_nonneg (z : Fin 16 → EReal) (hz : ∀ k, ∃ r : ℝ, z k = r) (e : Fin 16) : 0 ≤ soft z e := by
  choose r hr using hz
  obtain ⟨i, hi⟩ := exists_isTop z
  have hg : greatest z = (r i : EReal) := by
    unfold greatest
    rw [fold_max_eq hi.1, hr i]
  have he : ∀ k, Ideal.exp (z k - greatest z) = ((Real.exp (r k - r i) : ℝ) : EReal) := by
    intro k
    rw [hg, hr k, ← EReal.coe_sub]
    rfl
  have hs : (∑ k, Ideal.exp (z k - greatest z)) = ((∑ k, Real.exp (r k - r i) : ℝ) : EReal) := by
    rw [Finset.sum_congr rfl fun k _ => he k, sum_coe]
  have hpos : 0 < ∑ k, Real.exp (r k - r i) := Finset.sum_pos (fun k _ => Real.exp_pos _) ⟨0, Finset.mem_univ _⟩
  unfold soft
  rw [hs, he e]
  unfold Ideal.div
  rw [if_neg (by exact_mod_cast hpos.ne'), ← EReal.coe_inv, ← EReal.coe_mul]
  exact_mod_cast mul_nonneg (Real.exp_pos _).le (inv_pos.mpr hpos).le

/-- The word of the least value a running maximum starts from. -/
theorem ofBits_least : Ideal.ofBits .f32 0xFF800000#32 = (⊥ : EReal) := by
  simp [Ideal.ofBits, Ideal.ieee, -EReal.coe_mul, -EReal.coe_neg]

/-- The word of the greatest value. -/
theorem ofBits_most : Ideal.ofBits .f32 0x7F800000#32 = (⊤ : EReal) := by
  simp [Ideal.ofBits, Ideal.ieee, -EReal.coe_mul, -EReal.coe_neg]

/-- The number that strikes out the first place is negative. -/
theorem ofBits_strike : Ideal.ofBits .f32 0xBF800000#32 < (0 : EReal) := by
  have h : Ideal.ofBits .f32 0xBF800000#32 = ((-1 : ℝ) : EReal) := by
    simp [Ideal.ofBits, Ideal.ieee, -EReal.coe_mul, -EReal.coe_neg]
    norm_num
  rw [h]
  exact_mod_cast (by norm_num : (-1 : ℝ) < 0)

end Cert.Proof.Row

end
-- ==== Proof.Block.lean ====
/- What one run of the kernel's body picks from a row of probabilities: the first and the second place, by value and
   number, and the two weights. -/
module

public import proofs.«01_k».proof.Proof.Gen.KernelIdeal.Skeleton
public import proofs.«01_k».proof.Proof.Softmax

@[expose] public section

set_option maxRecDepth 16384

noncomputable section

namespace Cert.Proof.Block

open Cert.KernelIdeal Cert.KernelIdeal.Gen Idealize.ShloMosaic Cert.Proof.Row

/-- The small number added to the sum of the two weights. -/
def eps : EReal := Ideal.ofBits .f32 0x3089705F#32

/-- The two probabilities of the places `i` and `j`, each divided by their sum and the small number. -/
def weight (p : Fin 16 → EReal) (i j : Fin 16) (s : Fin 2) : EReal :=
  Ideal.div (p ((![i, j] : Fin 2 → Fin 16) s)) (p i + p j + eps)

/-- The number of the place, as a word. -/
def placeWord (i j : Fin 16) (s : Fin 2) : BitVec 32 := BitVec.ofNat 32 ((![i, j] : Fin 2 → Fin 16) s).val

/-- A row of a matrix with sixteen columns. -/
def row (v : FVec Ideal S288x16 .f32) (q : Fin 288) (e : Fin 16) : EReal := v (ix2 q e)

/-- The running maximum of a row is its greatest entry. -/
theorem pay1_apply (v : FVec Ideal S288x16 .f32) (q : Fin 288) : k0_pay1 v (ix2 q 0) = greatest (row v q) := by
  pointwise [k0_pay1]
  rw [show Ideal.ofBits .f32 4286578688#32 = (⊥ : EReal) from ofBits_least]
  rfl

/-- The first place's number: the least position that attains the running maximum. -/
theorem pay2_apply (v : FVec Ideal S288x16 .f32) (q : Fin 288) (i : Fin 16) (hi : IsTop (row v q) i) :
    k0_pay2 v (ix2 q 0) = BitVec.ofNat 32 i := by
  have h1 : k0_pay1 v (ix2 q 0) = row v q i := (pay1_apply v q).trans (fold_max_eq hi.1)
  pointwise [k0_pay2]
  refine fold_min_eq hi _ fun k => ?_
  rw [h1]
  rfl

/-- The row with the first place struck out. -/
theorem pay3_apply (v : FVec Ideal S288x16 .f32) (q : Fin 288) (i : Fin 16) (hi : IsTop (row v q) i) (e : Fin 16) :
    k0_pay3 v (ix2 q e) = if e = i then Ideal.ofBits .f32 0xBF800000#32 else row v q e := by
  pointwise [k0_pay3]
  rw [pay2_apply v q i hi]
  by_cases h : e = i
  · subst h
    rw [if_pos rfl]
    simp [Scalar.select, IntOp.cmpi]
  · rw [if_neg h]
    have : BitVec.ofNat 32 e.val ≠ BitVec.ofNat 32 i.val := fun hh => h ((word_eq_iff e i).mp hh)
    have hb : (BitVec.ofNat 32 e.val == BitVec.ofNat 32 i.val) = false := beq_eq_false_iff_ne.mpr this
    simp [Scalar.select, IntOp.cmpi, hb, row]

/-- The running maximum of the row with the first place struck out. -/
theorem pay4_apply (v : FVec Ideal S288x16 .f32) (q : Fin 288) :
    k0_pay4 v (ix2 q 0) = greatest fun e => k0_pay3 v (ix2 q e) := by
  pointwise [k0_pay4]
  rw [show Ideal.ofBits .f32 4286578688#32 = (⊥ : EReal) from ofBits_least]
  rfl

/-- From a row without negative entries the body takes the first and the second place, by value and by number. -/
theorem picks (v : FVec Ideal S288x16 .f32) (q : Fin 288) (hv : ∀ e, 0 ≤ row v q e) :
    ∃ i j, IsTopTwo (row v q) i j ∧ k0_pay1 v (ix2 q 0) = row v q i ∧ k0_pay2 v (ix2 q 0) = BitVec.ofNat 32 i.val
      ∧ k0_pay4 v (ix2 q 0) = row v q j ∧ IsTop (fun e => k0_pay3 v (ix2 q e)) j := by
  obtain ⟨i, hi⟩ := exists_isTop (row v q)
  obtain ⟨j, hj⟩ := exists_isTop fun e => k0_pay3 v (ix2 q e)
  obtain ⟨h, hv'⟩ := topTwo_of_struck hv ofBits_strike hi (fun k => pay3_apply v q i hi k) hj
  exact ⟨i, j, h, (pay1_apply v q).trans (fold_max_eq hi.1), pay2_apply v q i hi,
    (pay4_apply v q).trans ((fold_max_eq hj.1).trans hv'), hj⟩

/-- The row of image `g` and patch `q`. -/
def rowAt (g : Fin 8) (q : Fin 36) : Fin 288 := ⟨g.val * 36 + q.val, by omega⟩

/-- The body's weights and numbers at image `g` and patch `q` are those of the row's first and second place. -/
theorem picks_apply (v : FVec Ideal S288x16 .f32) (g : Fin 8) (q : Fin 36) (hv : ∀ e, 0 ≤ row v (rowAt g q) e) :
    ∃ i j, IsTopTwo (row v (rowAt g q)) i j
      ∧ (∀ s, k0_pay5 v (ix3 g q s) = weight (row v (rowAt g q)) i j s)
      ∧ ∀ s, k0_pay6 v (ix3 g q s) = placeWord i j s := by
  obtain ⟨i, j, h, h1, h2, h4, hj⟩ := picks v (rowAt g q) hv
  refine ⟨i, j, h, fun s => ?_, fun s => ?_⟩
  · pointwise [k0_pay5]
    fin_cases s
    · refine (dif_pos Nat.one_pos).trans ?_
      show Ideal.div (k0_pay1 v (ix2 (rowAt g q) 0)) (k0_pay1 v (ix2 (rowAt g q) 0) + k0_pay4 v (ix2 (rowAt g q) 0) + eps)
        = Ideal.div (row v (rowAt g q) i) (row v (rowAt g q) i + row v (rowAt g q) j + eps)
      rw [h1, h4]
    · refine (dif_neg (Nat.lt_irrefl 1)).trans ?_
      show Ideal.div (k0_pay4 v (ix2 (rowAt g q) 0)) (k0_pay1 v (ix2 (rowAt g q) 0) + k0_pay4 v (ix2 (rowAt g q) 0) + eps)
        = Ideal.div (row v (rowAt g q) j) (row v (rowAt g q) i + row v (rowAt g q) j + eps)
      rw [h1, h4]
  · pointwise [k0_pay6]
    fin_cases s
    · exact (dif_pos Nat.one_pos).trans h2
    · refine (dif_neg (Nat.lt_irrefl 1)).trans ?_
      refine fold_min_eq hj _ fun k => ?_
      have h4' : k0_pay4 v (ix2 (rowAt g q) 0) = k0_pay3 v (ix2 (rowAt g q) j) :=
        (pay4_apply v (rowAt g q)).trans (fold_max_eq hj.1)
      exact congrArg (fun a => if k0_pay3 v (ix2 (rowAt g q) k) = a then BitVec.ofNat 32 k.val else 16#32) h4'

end Cert.Proof.Block

end
-- ==== Proof.Sum.lean ====
/- The routing score as one sum: of a patch's products with an expert's weights, over channels and places.

   The kernel multiplies every pixel by every row of weights, keeps the products whose place in the patch is the row's
   place, adds up the rows of an expert and then the pixels of a patch (`collapse`). The reference lays a patch out as one
   list of 12288 numbers (`sum_patch`). Both are sums of the same products. -/
module

public import Idealize.ShloMosaic.Lib.Pointwise

@[expose] public section

set_option maxRecDepth 16384

noncomputable section

namespace Cert.Proof.Sum

open Idealize.ShloMosaic

/-- Row of pixels `kh` of patch `j`. -/
def rowOf (j : Fin 36) (kh : Fin 4) : Fin 24 := ⟨4 * (j.val / 6) + kh.val, by omega⟩

/-- Column of pixels `kw` of patch `j`. -/
def colOf (j : Fin 36) (kw : Fin 4) : Fin 24 := ⟨4 * (j.val % 6) + kw.val, by omega⟩

/-- The pixel of patch `j` at place `(kh, kw)`, in an image whose pixels are one list. -/
def pixelOf (j : Fin 36) (kh kw : Fin 4) : Fin 576 :=
  ⟨(4 * (j.val / 6) + kh.val) * 24 + (4 * (j.val % 6) + kw.val), by omega⟩

/-- The row of weights of expert `e` for place `(kh, kw)`. -/
def weightRow (e : Fin 16) (kh kw : Fin 4) : Fin 256 := ⟨kh.val * 64 + e.val * 4 + kw.val, by omega⟩

/-- The score of a patch: its products with the weights, over channels and places. -/
def score (x : Fin 768 → Fin 24 → Fin 24 → EReal) (w : Fin 768 → Fin 4 → Fin 4 → EReal) (j : Fin 36) : EReal :=
  ∑ c, ∑ kh, ∑ kw, x c (rowOf j kh) (colOf j kw) * w c kh kw

/-- Zeros and ones select: the rows of one expert, the pixels of one patch, and of each such pair the one whose places
    agree, which is one row and one pixel for each place. -/
theorem collapse (Z : Fin 256 → Fin 576 → EReal) (e : Fin 16) (j : Fin 36) :
    (∑ l : Fin 576, (∑ r : Fin 256, (if r.val % 64 / 4 = e.val then (1 : EReal) else 0)
          * (Z r l * (if r.val / 64 = l.val / 24 % 4 ∧ r.val % 4 = l.val % 4 then 1 else 0)))
        * (if l.val / 96 = j.val / 6 ∧ l.val % 24 / 4 = j.val % 6 then 1 else 0))
      = ∑ kh : Fin 4, ∑ kw : Fin 4, Z (weightRow e kh kw) (pixelOf j kh kw) := by
  have h1 : ∀ l : Fin 576, (∑ r : Fin 256, (if r.val % 64 / 4 = e.val then (1 : EReal) else 0)
          * (Z r l * (if r.val / 64 = l.val / 24 % 4 ∧ r.val % 4 = l.val % 4 then 1 else 0)))
        * (if l.val / 96 = j.val / 6 ∧ l.val % 24 / 4 = j.val % 6 then 1 else 0)
      = ∑ r : Fin 256, if (l.val / 96 = j.val / 6 ∧ l.val % 24 / 4 = j.val % 6) ∧ r.val % 64 / 4 = e.val
          ∧ r.val / 64 = l.val / 24 % 4 ∧ r.val % 4 = l.val % 4 then Z r l else 0 := by
    intro l
    by_cases hl : l.val / 96 = j.val / 6 ∧ l.val % 24 / 4 = j.val % 6
    · rw [if_pos hl, mul_one]
      refine Finset.sum_congr rfl fun r _ => ?_
      by_cases hr : r.val % 64 / 4 = e.val
      · by_cases hp : r.val / 64 = l.val / 24 % 4 ∧ r.val % 4 = l.val % 4
        · rw [if_pos hr, if_pos hp, if_pos ⟨hl, hr, hp⟩, one_mul, mul_one]
        · rw [if_neg hp, mul_zero, mul_zero, if_neg (fun h => hp h.2.2)]
      · rw [if_neg hr, zero_mul, if_neg (fun h => hr h.2.1)]
    · rw [if_neg hl, mul_zero]
      refine (Finset.sum_eq_zero fun r _ => ?_).symm
      rw [if_neg (fun h => hl h.1)]
  rw [Finset.sum_congr rfl fun l _ => h1 l, ← Fintype.sum_prod_type' (fun (l : Fin 576) (r : Fin 256) =>
    if (l.val / 96 = j.val / 6 ∧ l.val % 24 / 4 = j.val % 6) ∧ r.val % 64 / 4 = e.val
          ∧ r.val / 64 = l.val / 24 % 4 ∧ r.val % 4 = l.val % 4 then Z r l else 0),
    ← Fintype.sum_prod_type' (fun kh kw : Fin 4 => Z (weightRow e kh kw) (pixelOf j kh kw)), ← Finset.sum_filter]
  have hj := j.isLt
  have he := e.isLt
  refine Finset.sum_nbij' (fun q => ((⟨q.1.val / 24 % 4, by omega⟩ : Fin 4), (⟨q.1.val % 4, by omega⟩ : Fin 4)))
    (fun q => (pixelOf j q.1 q.2, weightRow e q.1 q.2)) ?_ ?_ ?_ ?_ ?_
  · intro q _
    exact Finset.mem_univ _
  · rintro ⟨kh, kw⟩ _
    simp only [pixelOf, weightRow, Finset.mem_filter, Finset.mem_univ, true_and]
    omega
  · rintro ⟨l, r⟩ h
    simp only [Finset.mem_filter, Finset.mem_univ, true_and] at h
    simp only [pixelOf, weightRow, Prod.mk.injEq, Fin.ext_iff]
    omega
  · rintro ⟨kh, kw⟩ _
    simp only [pixelOf, Prod.mk.injEq, Fin.ext_iff]
    omega
  · rintro ⟨l, r⟩ h
    simp only [Finset.mem_filter, Finset.mem_univ, true_and] at h
    have hl : l = pixelOf j ⟨l.val / 24 % 4, by omega⟩ ⟨l.val % 4, by omega⟩ := by
      simp only [pixelOf, Fin.ext_iff]; omega
    have hr : r = weightRow e ⟨l.val / 24 % 4, by omega⟩ ⟨l.val % 4, by omega⟩ := by
      simp only [weightRow, Fin.ext_iff]; omega
    exact congrArg₂ Z hr hl

/-- The kernel's three products with the tables of zeros and ones give the score. -/
theorem collapse_score (W : Fin 256 → Fin 768 → EReal) (X : Fin 768 → Fin 576 → EReal)
    (x : Fin 768 → Fin 24 → Fin 24 → EReal) (w : Fin 768 → Fin 4 → Fin 4 → EReal) (e : Fin 16) (j : Fin 36)
    (hX : ∀ c kh kw, X c (pixelOf j kh kw) = x c (rowOf j kh) (colOf j kw))
    (hW : ∀ c kh kw, W (weightRow e kh kw) c = w c kh kw) :
    (∑ l : Fin 576, (∑ r : Fin 256, (if r.val % 64 / 4 = e.val then (1 : EReal) else 0)
          * ((∑ c : Fin 768, W r c * X c l) * (if r.val / 64 = l.val / 24 % 4 ∧ r.val % 4 = l.val % 4 then 1 else 0)))
        * (if l.val / 96 = j.val / 6 ∧ l.val % 24 / 4 = j.val % 6 then 1 else 0)) = score x w j := by
  rw [collapse (fun r l => ∑ c : Fin 768, W r c * X c l)]
  unfold score
  rw [Finset.sum_comm' (s := Finset.univ) (t := fun _ => Finset.univ) (t' := Finset.univ) (s' := fun _ => Finset.univ) (by simp)]
  rw [Finset.sum_congr rfl fun kw _ => Finset.sum_comm, Finset.sum_comm]
  refine Finset.sum_congr rfl fun c _ => ?_
  rw [Finset.sum_comm]
  refine Finset.sum_congr rfl fun kh _ => Finset.sum_congr rfl fun kw _ => ?_
  rw [hX, hW, mul_comm]

/-- The reference's list of a patch, channel by channel and within a channel place by place. -/
theorem sum_patch (f : Fin 12288 → EReal) :
    ∑ k, f k = ∑ c : Fin 768, ∑ kh : Fin 4, ∑ kw : Fin 4, f ⟨c.val * 16 + kh.val * 4 + kw.val, by omega⟩ := by
  rw [Finset.sum_congr rfl fun (c : Fin 768) _ => (Fintype.sum_prod_type' (fun kh kw : Fin 4 =>
      f ⟨c.val * 16 + kh.val * 4 + kw.val, by omega⟩)).symm,
    ← Fintype.sum_prod_type' (fun (c : Fin 768) (q : Fin 4 × Fin 4) => f ⟨c.val * 16 + q.1.val * 4 + q.2.val, by omega⟩)]
  refine Finset.sum_nbij' (fun k => ((⟨k.val / 16, by omega⟩ : Fin 768), (⟨k.val / 4 % 4, by omega⟩ : Fin 4), (⟨k.val % 4, by omega⟩ : Fin 4)))
    (fun q => ⟨q.1.val * 16 + q.2.1.val * 4 + q.2.2.val, by omega⟩) ?_ ?_ ?_ ?_ ?_
  · intro q _
    exact Finset.mem_univ _
  · intro q _
    exact Finset.mem_univ _
  · intro k _
    simp only [Fin.ext_iff]
    omega
  · rintro ⟨c, kh, kw⟩ _
    simp only [Prod.mk.injEq, Fin.ext_iff]
    omega
  · intro k _
    refine congrArg f (Fin.ext ?_)
    simp only
    omega

/-! ## Finiteness -/

/-- A sum of real numbers is a real number. -/
theorem sum_real {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The score of real pixels and real weights is a real number. -/
theorem score_real (x : Fin 768 → Fin 24 → Fin 24 → EReal) (w : Fin 768 → Fin 4 → Fin 4 → EReal) (j : Fin 36)
    (hx : ∀ c h k, ∃ r : ℝ, x c h k = r) (hw : ∀ c h k, ∃ r : ℝ, w c h k = r) : ∃ r : ℝ, score x w j = r := by
  refine sum_real _ _ fun c => sum_real _ _ fun kh => sum_real _ _ fun kw => ?_
  obtain ⟨a, ha⟩ := hx c (rowOf j kh) (colOf j kw)
  obtain ⟨b, hb⟩ := hw c kh kw
  exact ⟨a * b, by rw [ha, hb, EReal.coe_mul]⟩

end Cert.Proof.Sum

end
-- ==== Proof.Image.lean ====
/- The routing scores one run of the body computes: image by image, stacked and transposed. -/
module

public import proofs.«01_k».proof.Proof.Gen.KernelIdeal.Frame
public import proofs.«01_k».proof.Proof.Block
public import proofs.«01_k».proof.Proof.Sum

@[expose] public section

set_option maxRecDepth 16384

noncomputable section

namespace Cert.Proof.Block

open Cert.KernelIdeal Cert.KernelIdeal.Gen Idealize.ShloMosaic Cert.Proof.Row Cert.Proof.Sum

/-- Eight matrices of scores, side by side and transposed. -/
def stack (v : Fin 8 → FVec Ideal S16x36 .f32) : FVec Ideal S288x16 .f32 :=
  transpose S288x16 [1, 0] (concatenate S16x288 1 [⟨S16x36, v 0⟩, ⟨S16x36, v 1⟩, ⟨S16x36, v 2⟩, ⟨S16x36, v 3⟩, ⟨S16x36, v 4⟩,
    ⟨S16x36, v 5⟩, ⟨S16x36, v 6⟩, ⟨S16x36, v 7⟩]
    concatenates_S16x36_S16x36_S16x36_S16x36_S16x36_S16x36_S16x36_S16x36_S16x288_d1) transposes_S16x288_p1_0_S288x16

/-- The stack read at the row of an image and a patch: that image's matrix. -/
theorem stack_apply (v : Fin 8 → FVec Ideal S16x36 .f32) (g : Fin 8) (q : Fin 36) (e : Fin 16) :
    stack v (ix2 (rowAt g q) e) = v g (ix2 e q) := by
  have hr : (rowAt g q).val = g.val * 36 + q.val := rfl
  have hq := q.isLt
  have hg := g.isLt
  have key : ∀ (k : Fin 8) (r : Fin 36), k = g → r = q → v k (ix2 e r) = v g (ix2 e q) := by
    rintro _ _ rfl rfl
    rfl
  pointwise [stack]
  split_ifs <;> exact key _ _ (Fin.ext (by omega)) (Fin.ext (by simp only; omega))

section

variable (x0 : Vec Ideal S8x768x576 .f32) (x1 : Vec Ideal S256x768 .f32) (x2 : Vec Ideal S256x576 .f32)
  (x3 : Vec Ideal S16x256 .f32) (x4 : Vec Ideal S576x36 .f32)

/-- One image of a block of eight. -/
def imageOf (g : Fin 8) : Vec Ideal S1x768x576 .f32 :=
  ![View.ld x0 r0_2, View.ld x0 r0_5, View.ld x0 r0_6, View.ld x0 r0_7, View.ld x0 r0_8, View.ld x0 r0_9, View.ld x0 r0_10,
    View.ld x0 r0_11] g

/-- The scores of one image. -/
def imageScores (g : Fin 8) : FVec Ideal S16x36 .f32 :=
  k0_pay12 (k0_pay18 x0 x1 x2 x3 x4) (View.ld x2 r0_1) (imageOf x0 g) (View.ld x3 r0_3) (View.ld x4 r0_4)

/-- The scores of a block, one row for each image and patch. -/
def logits : FVec Ideal S288x16 .f32 :=
  k0_pay15 (k0_pay18 x0 x1 x2 x3 x4) (View.ld x2 r0_1) (k0_pay19 x0 x1 x2 x3 x4) (k0_pay20 x0 x1 x2 x3 x4)
    (k0_pay21 x0 x1 x2 x3 x4) (k0_pay22 x0 x1 x2 x3 x4) (k0_pay23 x0 x1 x2 x3 x4) (k0_pay24 x0 x1 x2 x3 x4)
    (View.ld x4 r0_4) (View.ld x0 r0_10) (View.ld x3 r0_3) (View.ld x4 r0_4) (View.ld x0 r0_11) (View.ld x3 r0_3) (View.ld x4 r0_4)

/-- The body treats its eight images alike: its scores are the stack of the eight images' scores. -/
theorem logits_eq : logits x0 x1 x2 x3 x4 = stack (imageScores x0 x1 x2 x3 x4) := rfl

/-- An image of the block, at a channel and a pixel. -/
theorem imageOf_apply (g : Fin 8) (c : Fin 768) (l : Fin 576) : imageOf x0 g (ix3 0 c l) = x0 (ix3 g c l) := by
  fin_cases g
  · show View.ld x0 r0_2 (ix3 0 c l) = x0 (ix3 0 c l)
    pointwise
  · show View.ld x0 r0_5 (ix3 0 c l) = x0 (ix3 1 c l)
    pointwise
  · show View.ld x0 r0_6 (ix3 0 c l) = x0 (ix3 2 c l)
    pointwise
  · show View.ld x0 r0_7 (ix3 0 c l) = x0 (ix3 3 c l)
    pointwise
  · show View.ld x0 r0_8 (ix3 0 c l) = x0 (ix3 4 c l)
    pointwise
  · show View.ld x0 r0_9 (ix3 0 c l) = x0 (ix3 5 c l)
    pointwise
  · show View.ld x0 r0_10 (ix3 0 c l) = x0 (ix3 6 c l)
    pointwise
  · show View.ld x0 r0_11 (ix3 0 c l) = x0 (ix3 7 c l)
    pointwise

/-- One score of a block, as the three products the body takes. -/
theorem logits_apply (g : Fin 8) (q : Fin 36) (e : Fin 16) :
    row (logits x0 x1 x2 x3 x4) (rowAt g q) e
      = ∑ l : Fin 576, (∑ r : Fin 256, x3 (ix2 e r) * ((∑ c : Fin 768, x1 (ix2 r c) * x0 (ix3 g c l)) * x2 (ix2 r l)))
          * x4 (ix2 l q) := by
  unfold row
  rw [logits_eq, stack_apply]
  unfold imageScores
  pointwise [k0_pay12, k0_pay18, k0_pay7]
  simp only [imageOf_apply]

/-- The body's probabilities: the softmax of each row of scores. -/
theorem soft_apply (q : Fin 288) : row (k0_pay25 x0 x1 x2 x3 x4) q = soft (row (logits x0 x1 x2 x3 x4) q) := by
  funext e
  unfold k0_pay25 row
  pointwise [k0_pay17]
  rw [show Ideal.ofBits .f32 4286578688#32 = (⊥ : EReal) from ofBits_least]
  rfl

/-- The scores as the block of three axes the body writes. -/
theorem out7_apply (g : Fin 8) (q : Fin 36) (e : Fin 16) :
    out0_7 x0 x1 x2 x3 x4 (ix3 g q e) = row (logits x0 x1 x2 x3 x4) (rowAt g q) e := by
  have hz : (![0, 0, 0] : Fin 3 → Nat) = fun _ => 0 := by decide
  unfold out0_7
  rw [View.canon_unit_zero hz]
  pointwise [k0_pay16]
  rfl

/-- The weights and the numbers the body writes, where no score is infinite. -/
theorem out56_apply (g : Fin 8) (q : Fin 36) (hz : ∀ e, ∃ r : ℝ, row (logits x0 x1 x2 x3 x4) (rowAt g q) e = r) :
    ∃ i j, IsTopTwo (soft (row (logits x0 x1 x2 x3 x4) (rowAt g q))) i j
      ∧ (∀ s, out0_5 x0 x1 x2 x3 x4 (ix3 g q s) = weight (soft (row (logits x0 x1 x2 x3 x4) (rowAt g q))) i j s)
      ∧ ∀ s, out0_6 x0 x1 x2 x3 x4 (ix3 g q s) = placeWord i j s := by
  have hz' : (![0, 0, 0] : Fin 3 → Nat) = fun _ => 0 := by decide
  have hs := soft_apply x0 x1 x2 x3 x4 (rowAt g q)
  obtain ⟨i, j, h, h5, h6⟩ := picks_apply (k0_pay25 x0 x1 x2 x3 x4) g q (fun e => by
    rw [hs]
    exact soft_nonneg _ hz e)
  rw [hs] at h h5
  refine ⟨i, j, h, fun s => ?_, fun s => ?_⟩
  · unfold out0_5
    rw [View.canon_unit_zero hz']
    exact h5 s
  · unfold out0_6
    rw [View.canon_unit_zero hz']
    exact h6 s

end

end Cert.Proof.Block

end
-- ==== Proof.Entries.lean ====
module

public import proofs.«01_k».proof.KernelIdeal
import Mathlib.Tactic.IntervalCases

/-! The kernel's three constant tables, entry by entry: each is the table of a yes-or-no question
about the entry's number. A table is a tree of choices by the number's digits; the trees below have
the same arms, filled from a function, and so they are equal to the tables arm by arm. -/

@[expose] public section

set_option maxRecDepth 16384

namespace Cert.Proof.Tables

open Cert.KernelIdeal

/-- One leaf: 128 entries, chosen by the last digit of the number. -/
def leaf (f : Nat → BitVec 32) (i : Nat) : BitVec 32 := match i % 128 with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32

/-- One node: 128 leaves, chosen by the second digit. -/
def node (f : Nat → Nat → BitVec 32) (i : Nat) : BitVec 32 := match i / 128 % 128 with
  | 0 => f 0 i | 1 => f 1 i | 2 => f 2 i | 3 => f 3 i | 4 => f 4 i | 5 => f 5 i | 6 => f 6 i | 7 => f 7 i
  | 8 => f 8 i | 9 => f 9 i | 10 => f 10 i | 11 => f 11 i | 12 => f 12 i | 13 => f 13 i | 14 => f 14 i | 15 => f 15 i
  | 16 => f 16 i | 17 => f 17 i | 18 => f 18 i | 19 => f 19 i | 20 => f 20 i | 21 => f 21 i | 22 => f 22 i | 23 => f 23 i
  | 24 => f 24 i | 25 => f 25 i | 26 => f 26 i | 27 => f 27 i | 28 => f 28 i | 29 => f 29 i | 30 => f 30 i | 31 => f 31 i
  | 32 => f 32 i | 33 => f 33 i | 34 => f 34 i | 35 => f 35 i | 36 => f 36 i | 37 => f 37 i | 38 => f 38 i | 39 => f 39 i
  | 40 => f 40 i | 41 => f 41 i | 42 => f 42 i | 43 => f 43 i | 44 => f 44 i | 45 => f 45 i | 46 => f 46 i | 47 => f 47 i
  | 48 => f 48 i | 49 => f 49 i | 50 => f 50 i | 51 => f 51 i | 52 => f 52 i | 53 => f 53 i | 54 => f 54 i | 55 => f 55 i
  | 56 => f 56 i | 57 => f 57 i | 58 => f 58 i | 59 => f 59 i | 60 => f 60 i | 61 => f 61 i | 62 => f 62 i | 63 => f 63 i
  | 64 => f 64 i | 65 => f 65 i | 66 => f 66 i | 67 => f 67 i | 68 => f 68 i | 69 => f 69 i | 70 => f 70 i | 71 => f 71 i
  | 72 => f 72 i | 73 => f 73 i | 74 => f 74 i | 75 => f 75 i | 76 => f 76 i | 77 => f 77 i | 78 => f 78 i | 79 => f 79 i
  | 80 => f 80 i | 81 => f 81 i | 82 => f 82 i | 83 => f 83 i | 84 => f 84 i | 85 => f 85 i | 86 => f 86 i | 87 => f 87 i
  | 88 => f 88 i | 89 => f 89 i | 90 => f 90 i | 91 => f 91 i | 92 => f 92 i | 93 => f 93 i | 94 => f 94 i | 95 => f 95 i
  | 96 => f 96 i | 97 => f 97 i | 98 => f 98 i | 99 => f 99 i | 100 => f 100 i | 101 => f 101 i | 102 => f 102 i | 103 => f 103 i
  | 104 => f 104 i | 105 => f 105 i | 106 => f 106 i | 107 => f 107 i | 108 => f 108 i | 109 => f 109 i | 110 => f 110 i | 111 => f 111 i
  | 112 => f 112 i | 113 => f 113 i | 114 => f 114 i | 115 => f 115 i | 116 => f 116 i | 117 => f 117 i | 118 => f 118 i | 119 => f 119 i
  | 120 => f 120 i | 121 => f 121 i | 122 => f 122 i | 123 => f 123 i | 124 => f 124 i | 125 => f 125 i | 126 => f 126 i | 127 => f 127 i
  | _ => 0#32

/-- The last node of the table of patches, which has 34 leaves. -/
def nodeLast (f : Nat → Nat → BitVec 32) (i : Nat) : BitVec 32 := match i / 128 % 128 with
  | 0 => f 0 i | 1 => f 1 i | 2 => f 2 i | 3 => f 3 i | 4 => f 4 i | 5 => f 5 i | 6 => f 6 i | 7 => f 7 i
  | 8 => f 8 i | 9 => f 9 i | 10 => f 10 i | 11 => f 11 i | 12 => f 12 i | 13 => f 13 i | 14 => f 14 i | 15 => f 15 i
  | 16 => f 16 i | 17 => f 17 i | 18 => f 18 i | 19 => f 19 i | 20 => f 20 i | 21 => f 21 i | 22 => f 22 i | 23 => f 23 i
  | 24 => f 24 i | 25 => f 25 i | 26 => f 26 i | 27 => f 27 i | 28 => f 28 i | 29 => f 29 i | 30 => f 30 i | 31 => f 31 i
  | 32 => f 32 i | 33 => f 33 i
  | _ => 0#32

/-- The root of the table of places: nine nodes. -/
def rootPlace (f : Nat → Nat → BitVec 32) (i : Nat) : BitVec 32 := match i / 16384 with
  | 0 => f 0 i | 1 => f 1 i | 2 => f 2 i | 3 => f 3 i | 4 => f 4 i | 5 => f 5 i | 6 => f 6 i | 7 => f 7 i
  | 8 => f 8 i
  | _ => 0#32

/-- The root of the table of experts: 32 leaves. -/
def rootExpert (f : Nat → Nat → BitVec 32) (i : Nat) : BitVec 32 := match i / 128 with
  | 0 => f 0 i | 1 => f 1 i | 2 => f 2 i | 3 => f 3 i | 4 => f 4 i | 5 => f 5 i | 6 => f 6 i | 7 => f 7 i
  | 8 => f 8 i | 9 => f 9 i | 10 => f 10 i | 11 => f 11 i | 12 => f 12 i | 13 => f 13 i | 14 => f 14 i | 15 => f 15 i
  | 16 => f 16 i | 17 => f 17 i | 18 => f 18 i | 19 => f 19 i | 20 => f 20 i | 21 => f 21 i | 22 => f 22 i | 23 => f 23 i
  | 24 => f 24 i | 25 => f 25 i | 26 => f 26 i | 27 => f 27 i | 28 => f 28 i | 29 => f 29 i | 30 => f 30 i | 31 => f 31 i
  | _ => 0#32

/-- The root of the table of patches: two nodes. -/
def rootPatch (f g : Nat → BitVec 32) (i : Nat) : BitVec 32 := match i / 16384 with
  | 0 => f i | 1 => g i
  | _ => 0#32

/-- A leaf reads its function at the last digit. -/
theorem leaf_eq (f : Nat → BitVec 32) (i : Nat) : leaf f i = f (i % 128) := by
  have h : i % 128 < 128 := Nat.mod_lt _ (by decide)
  unfold leaf
  generalize i % 128 = k at h
  interval_cases k <;> rfl

/-- A node reads its function at the second digit. -/
theorem node_eq (f : Nat → Nat → BitVec 32) (i : Nat) : node f i = f (i / 128 % 128) i := by
  have h : i / 128 % 128 < 128 := Nat.mod_lt _ (by decide)
  unfold node
  generalize i / 128 % 128 = k at h
  interval_cases k <;> rfl

/-- The last node of the table of patches reads its function at the second digit. -/
theorem nodeLast_eq (f : Nat → Nat → BitVec 32) (i : Nat) (h : i / 128 % 128 < 34) :
    nodeLast f i = f (i / 128 % 128) i := by
  unfold nodeLast
  generalize i / 128 % 128 = k at h
  interval_cases k <;> rfl

/-- The root of the table of places reads its function at the first digit. -/
theorem rootPlace_eq (f : Nat → Nat → BitVec 32) (i : Nat) (h : i / 16384 < 9) :
    rootPlace f i = f (i / 16384) i := by
  unfold rootPlace
  generalize i / 16384 = k at h
  interval_cases k <;> rfl

/-- The root of the table of experts reads its function at the first digit. -/
theorem rootExpert_eq (f : Nat → Nat → BitVec 32) (i : Nat) (h : i / 128 < 32) :
    rootExpert f i = f (i / 128) i := by
  unfold rootExpert
  generalize i / 128 = k at h
  interval_cases k <;> rfl

/-- The word of one as a float, or of zero. -/
def flag (b : Bool) : BitVec 32 := bif b then 0x3F800000#32 else 0x00000000#32

/-- The entry of the table of places with the number `n`: row `n / 576`, position `n % 576`. -/
def place (n : Nat) : BitVec 32 :=
  flag (and (Nat.beq (n / 576 / 64) (n % 576 / 24 % 4)) (Nat.beq (n / 576 % 4) (n % 576 % 4)))

/-- The entry of the table of experts with the number `n`: expert `n / 256`, row `n % 256`. -/
def expert (n : Nat) : BitVec 32 := flag (Nat.beq (n % 256 % 64 / 4) (n / 256))

/-- The entry of the table of patches with the number `n`: position `n / 36`, patch `n % 36`. -/
def patch (n : Nat) : BitVec 32 :=
  flag (and (Nat.beq (n / 36 / 96) (n % 36 / 6)) (Nat.beq (n / 36 % 24 / 4) (n % 36 % 6)))

/-- The node 0 of the table of places. -/
theorem place_node_0 (i : Nat) :
    lit0t1_0 i = node (fun b => leaf fun c => place ((0 * 128 + b) * 128 + c)) i := (rfl)

/-- The node 1 of the table of places. -/
theorem place_node_1 (i : Nat) :
    lit0t1_1 i = node (fun b => leaf fun c => place ((1 * 128 + b) * 128 + c)) i := (rfl)

/-- The node 2 of the table of places. -/
theorem place_node_2 (i : Nat) :
    lit0t1_2 i = node (fun b => leaf fun c => place ((2 * 128 + b) * 128 + c)) i := (rfl)

/-- The node 3 of the table of places. -/
theorem place_node_3 (i : Nat) :
    lit0t1_3 i = node (fun b => leaf fun c => place ((3 * 128 + b) * 128 + c)) i := (rfl)

/-- The node 4 of the table of places. -/
theorem place_node_4 (i : Nat) :
    lit0t1_4 i = node (fun b => leaf fun c => place ((4 * 128 + b) * 128 + c)) i := (rfl)

/-- The node 5 of the table of places. -/
theorem place_node_5 (i : Nat) :
    lit0t1_5 i = node (fun b => leaf fun c => place ((5 * 128 + b) * 128 + c)) i := (rfl)

/-- The node 6 of the table of places. -/
theorem place_node_6 (i : Nat) :
    lit0t1_6 i = node (fun b => leaf fun c => place ((6 * 128 + b) * 128 + c)) i := (rfl)

/-- The node 7 of the table of places. -/
theorem place_node_7 (i : Nat) :
    lit0t1_7 i = node (fun b => leaf fun c => place ((7 * 128 + b) * 128 + c)) i := (rfl)

/-- The node 8 of the table of places. -/
theorem place_node_8 (i : Nat) :
    lit0t1_8 i = node (fun b => leaf fun c => place ((8 * 128 + b) * 128 + c)) i := (rfl)

/-- The table of places is the tree of its entries. -/
theorem place_tree (i : Nat) :
    lit0t i = rootPlace (fun a => node fun b => leaf fun c => place ((a * 128 + b) * 128 + c)) i := by
  unfold lit0t
  simp only [place_node_0, place_node_1, place_node_2, place_node_3, place_node_4, place_node_5, place_node_6,
    place_node_7, place_node_8]
  rfl

/-- The table of experts is the tree of its entries. -/
theorem expert_tree (i : Nat) :
    lit1t i = rootExpert (fun b => leaf fun c => expert (b * 128 + c)) i := (rfl)

/-- The first node of the table of patches. -/
theorem patch_node_0 (i : Nat) :
    lit2t1_0 i = node (fun b => leaf fun c => patch (b * 128 + c)) i := (rfl)

/-- The last node of the table of patches. -/
theorem patch_node_1 (i : Nat) :
    lit2t1_1 i = nodeLast (fun b => leaf fun c => patch ((128 + b) * 128 + c)) i := (rfl)

/-- An entry of the table of places. -/
theorem place_table (i : Nat) (h : i < 147456) : lit0t i = place i := by
  rw [place_tree, rootPlace_eq _ _ (by omega), node_eq, leaf_eq]
  congr 1
  omega

/-- An entry of the table of experts. -/
theorem expert_table (i : Nat) (h : i < 4096) : lit1t i = expert i := by
  rw [expert_tree, rootExpert_eq _ _ (by omega), leaf_eq]
  congr 1
  omega

/-- The table of patches is the tree of its entries. -/
theorem patch_tree (i : Nat) :
    lit2t i = rootPatch (node fun b => leaf fun c => patch (b * 128 + c))
      (nodeLast fun b => leaf fun c => patch ((128 + b) * 128 + c)) i := by
  unfold lit2t
  simp only [patch_node_0, patch_node_1]
  rfl

/-- The root of the table of patches takes its first node below 16384, its second from there. -/
theorem rootPatch_eq (f g : Nat → BitVec 32) (i : Nat) (h : i / 16384 < 2) :
    rootPatch f g i = if i < 16384 then f i else g i := by
  unfold rootPatch
  obtain h0 | h1 : i / 16384 = 0 ∨ i / 16384 = 1 := by omega
  · rw [h0, if_pos (by omega)]
    rfl
  · rw [h1, if_neg (by omega)]
    rfl

/-- An entry of the table of patches. -/
theorem patch_table (i : Nat) (h : i < 20736) : lit2t i = patch i := by
  rw [patch_tree, rootPatch_eq _ _ _ (by omega)]
  split
  · rw [node_eq, leaf_eq]
    congr 1
    omega
  · rw [nodeLast_eq _ _ (by omega), leaf_eq]
    congr 1
    omega

end Cert.Proof.Tables
-- ==== Proof.Tables.lean ====
/- The kernel's three constant tables read at an index, as zeros and ones of the extended reals. -/
module

public import proofs.«01_k».proof.Proof.Entries
public import Idealize.ShloMosaic.Lib.Pointwise
public import Idealize.ShloMosaic.Lib.IdealHost

@[expose] public section

set_option maxRecDepth 16384

namespace Cert.Proof.Tables

open Cert.KernelIdeal Idealize.ShloMosaic

/-- The word of a flag, read as a float: one or zero. -/
theorem ofBits_flag (b : Bool) : Ideal.ofBits .f32 (flag b) = if b = true then 1 else 0 := by
  cases b
  · exact Ideal.ofBits_zero_f32
  · exact Ideal.ofBits_one_f32

/-- The first table at row `r` and pixel `l`: one where the pixel's place in its patch is the row's. -/
theorem place_entry (r : Fin 256) (l : Fin 576) :
    Ideal.ofBits .f32 (lit0 (S256x576.rowMajor (ix2 r l)))
      = if r.val / 64 = l.val / 24 % 4 ∧ r.val % 4 = l.val % 4 then 1 else 0 := by
  have hr := r.isLt
  have hl := l.isLt
  have e : lit0 (S256x576.rowMajor (ix2 r l)) = lit0t (r.val * 576 + l.val) :=
    congrArg lit0t (rowMajor_val2 (ix2 r l) 576 rfl)
  have h1 : (r.val * 576 + l.val) / 576 = r.val := by omega
  have h2 : (r.val * 576 + l.val) % 576 = l.val := by omega
  rw [e, place_table _ (by omega), place, h1, h2, ofBits_flag]
  simp only [Bool.and_eq_true, Nat.beq_eq]

/-- The second table at expert `e` and row `r`: one where the row belongs to the expert. -/
theorem expert_entry (e : Fin 16) (r : Fin 256) :
    Ideal.ofBits .f32 (lit1 (S16x256.rowMajor (ix2 e r))) = if r.val % 64 / 4 = e.val then 1 else 0 := by
  have he := e.isLt
  have hr := r.isLt
  have h : lit1 (S16x256.rowMajor (ix2 e r)) = lit1t (e.val * 256 + r.val) :=
    congrArg lit1t (rowMajor_val2 (ix2 e r) 256 rfl)
  have h1 : (e.val * 256 + r.val) / 256 = e.val := by omega
  have h2 : (e.val * 256 + r.val) % 256 = r.val := by omega
  rw [h, expert_table _ (by omega), expert, h1, h2, ofBits_flag]
  simp only [Nat.beq_eq]

/-- The third table at pixel `l` and patch `j`: one where the pixel lies in the patch. -/
theorem patch_entry (l : Fin 576) (j : Fin 36) :
    Ideal.ofBits .f32 (lit2 (S576x36.rowMajor (ix2 l j)))
      = if l.val / 96 = j.val / 6 ∧ l.val % 24 / 4 = j.val % 6 then 1 else 0 := by
  have hl := l.isLt
  have hj := j.isLt
  have h : lit2 (S576x36.rowMajor (ix2 l j)) = lit2t (l.val * 36 + j.val) :=
    congrArg lit2t (rowMajor_val2 (ix2 l j) 36 rfl)
  have h1 : (l.val * 36 + j.val) / 36 = l.val := by omega
  have h2 : (l.val * 36 + j.val) % 36 = j.val := by omega
  rw [h, patch_table _ (by omega), patch, h1, h2, ofBits_flag]
  simp only [Bool.and_eq_true, Nat.beq_eq]

end Cert.Proof.Tables
-- ==== Proof.Arrays.lean ====
/- The kernel's blocks read from the arguments, and its three result arrays read from the blocks. -/
module

public import proofs.«01_k».proof.Proof.Image
public import proofs.«01_k».proof.Proof.Tables
public import Idealize.ShloMosaic.Lib.Pipeline.ValueKit

@[expose] public section

set_option maxRecDepth 16384

noncomputable section

namespace Cert.Proof.Arrays

open Cert.KernelIdeal Cert.KernelIdeal.Gen Idealize.ShloMosaic Idealize.ShloMosaic.TcCoe Idealize.SL.Sem
open Cert.Proof.Row Cert.Proof.Sum Cert.Proof.Block

variable (m : (ℓ : Loc nD τ sig) → Buf (Elt Ideal) ℓ) (c : Dev nD)

/-- Where each window's block lies at each point of the grid. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0]
    ∧ win0_6.index t = ![t.val, 0, 0] ∧ win0_7.index t = ![t.val, 0, 0] := by
  decide +kernel

/-- The image of a block. -/
def imageAt (t : Fin 8) (g : Fin 8) : Fin 64 := ⟨8 * t.val + g.val, by omega⟩

/-- A block of images, at a patch's pixel. -/
theorem images_apply (t : Fin 8) (g : Fin 8) (k : Fin 768) (q : Fin 36) (kh kw : Fin 4) :
    iblk m c 0 t (ix3 g k (pixelOf q kh kw)) = m (c.tc.loc main_arg0) (ix4 (imageAt t g) k (rowOf q kh) (colOf q kw)) := by
  have h : ((View.whole main_v0).slice (win0_0.rect t)).emb (ix3 g k (pixelOf q kh kw)) = ix3 (imageAt t g) k (pixelOf q kh kw) := by
    blk_ext [idx t, imageAt]
  unfold iblk
  blk_simp [idx t]
  entry_read
  rw [h]
  pointwise
  exact congrArg₂ (fun a b => m (c.tc.loc main_arg0) (ix4 (imageAt t g) k a b))
    (Fin.ext (by simp only [pixelOf, rowOf]; omega)) (Fin.ext (by simp only [pixelOf, colOf]; omega))

/-- The weights' rows. -/
theorem weights_apply (t : Fin 8) (k : Fin 768) (e : Fin 16) (kh kw : Fin 4) :
    iblk m c 1 t (ix2 (weightRow e kh kw) k) = m (c.tc.loc main_arg2) (ix4 e k kh kw) := by
  have h : ((View.whole main_v2).slice (win0_1.rect t)).emb (ix2 (weightRow e kh kw) k) = ix2 (weightRow e kh kw) k := by
    blk_ext [idx t]
  unfold iblk
  blk_simp [idx t]
  entry_read
  rw [h]
  pointwise
  have h1 : (⟨(weightRow e kh kw).val / 4 % 16, by omega⟩ : Fin 16) = e := Fin.ext (by simp only [weightRow]; omega)
  have h2 : (⟨(weightRow e kh kw).val / 64, by omega⟩ : Fin 4) = kh := Fin.ext (by simp only [weightRow]; omega)
  have h3 : (⟨(weightRow e kh kw).val % 4, by omega⟩ : Fin 4) = kw := Fin.ext (by simp only [weightRow]; omega)
  rw [h1, h2, h3]

/-- The table of places. -/
theorem places_apply (t : Fin 8) (r : Fin 256) (l : Fin 576) :
    iblk m c 2 t (ix2 r l) = if r.val / 64 = l.val / 24 % 4 ∧ r.val % 4 = l.val % 4 then (1 : EReal) else 0 := by
  have h : ((View.whole main_cst).slice (win0_2.rect t)).emb (ix2 r l) = ix2 r l := by blk_ext [idx t]
  unfold iblk
  blk_simp [idx t]
  entry_read
  rw [h]
  exact Tables.place_entry r l

/-- The table of experts. -/
theorem experts_apply (t : Fin 8) (e : Fin 16) (r : Fin 256) :
    iblk m c 3 t (ix2 e r) = if r.val % 64 / 4 = e.val then (1 : EReal) else 0 := by
  have h : ((View.whole main_cst_0).slice (win0_3.rect t)).emb (ix2 e r) = ix2 e r := by blk_ext [idx t]
  unfold iblk
  blk_simp [idx t]
  entry_read
  rw [h]
  exact Tables.expert_entry e r

/-- The table of patches. -/
theorem patches_apply (t : Fin 8) (l : Fin 576) (q : Fin 36) :
    iblk m c 4 t (ix2 l q) = if l.val / 96 = q.val / 6 ∧ l.val % 24 / 4 = q.val % 6 then (1 : EReal) else 0 := by
  have h : ((View.whole main_cst_1).slice (win0_4.rect t)).emb (ix2 l q) = ix2 l q := by blk_ext [idx t]
  unfold iblk
  blk_simp [idx t]
  entry_read
  rw [h]
  exact Tables.patch_entry l q

/-- The scores of a block: each is the sum over channels and places of a patch's products with an expert's weights. -/
theorem logits_score (t : Fin 8) (g : Fin 8) (q : Fin 36) (e : Fin 16) :
    row (logits (iblk m c 0 t) (iblk m c 1 t) (iblk m c 2 t) (iblk m c 3 t) (iblk m c 4 t)) (rowAt g q) e
      = score (fun k h w => m (c.tc.loc main_arg0) (ix4 (imageAt t g) k h w)) (fun k h w => m (c.tc.loc main_arg2) (ix4 e k h w)) q := by
  rw [logits_apply]
  simp only [places_apply, experts_apply, patches_apply]
  exact collapse_score (fun r k => iblk m c 1 t (ix2 r k)) (fun k l => iblk m c 0 t (ix3 g k l)) _ _ e q
    (fun k kh kw => images_apply m c t g k q kh kw) (fun k kh kw => weights_apply m c t k e kh kw)

/-- An array of sixty-four images' rows, from eight blocks of eight. -/
def gather {n : Nat} {α : Type} (f : Fin 8 → (⟨3, ![8, 36, n]⟩ : Shape).Idx → α) (i : (⟨3, ![64, 36, n]⟩ : Shape).Idx) : α :=
  f ⟨(i 0).val / 8, by have h : (i 0).val < 64 := (i 0).isLt; omega⟩ (ix3 ⟨(i 0).val % 8, by omega⟩ (i 1) (i 2))

/-- The gathered array at an image of a block. -/
theorem gather_apply {n : Nat} {α : Type} (f : Fin 8 → (⟨3, ![8, 36, n]⟩ : Shape).Idx → α) (t g : Fin 8) (q : Fin 36) (s : Fin n) :
    gather f (ix3 (imageAt t g) q s) = f t (ix3 g q s) :=
  congrArg₂ (fun a b => f a (ix3 b q s)) (Fin.ext (by show (8 * t.val + g.val) / 8 = t.val; omega))
    (Fin.ext (by show (8 * t.val + g.val) % 8 = g.val; omega))

/-- The array of weights after the run is gathered from the blocks. -/
theorem final5 : (dats m 0 c).arrAt 5 cfg0.N = gather fun t : Fin 8 =>
    out0_5 (iblk m c 0 t) (iblk m c 1 t) (iblk m c 2 t) (iblk m c 3 t) (iblk m c 4 t) := by
  refine (dats m 0 c).arrAt_eq_of_covers 5 _ (by decide +kernel) fun t hf y => ?_
  blk_simp
  rw [after0_5]
  idx_vars y
  have h : ((View.whole main_v3_0).slice (win0_5.rect t)).emb (ix3 y0 y1 y2) = ix3 (imageAt t y0) y1 y2 := by
    blk_ext [idx t, imageAt]
  refine Eq.trans ?_ (congrArg (gather _) h).symm
  exact (gather_apply (fun t : Fin 8 => out0_5 (iblk m c 0 t) (iblk m c 1 t) (iblk m c 2 t) (iblk m c 3 t) (iblk m c 4 t)) t y0 y1 y2).symm

/-- The array of numbers after the run is gathered from the blocks. -/
theorem final6 : (dats m 0 c).arrAt 6 cfg0.N = gather fun t : Fin 8 =>
    out0_6 (iblk m c 0 t) (iblk m c 1 t) (iblk m c 2 t) (iblk m c 3 t) (iblk m c 4 t) := by
  refine (dats m 0 c).arrAt_eq_of_covers 6 _ (by decide +kernel) fun t hf y => ?_
  blk_simp
  rw [after0_6]
  idx_vars y
  have h : ((View.whole main_v3_1).slice (win0_6.rect t)).emb (ix3 y0 y1 y2) = ix3 (imageAt t y0) y1 y2 := by
    blk_ext [idx t, imageAt]
  refine Eq.trans ?_ (congrArg (gather _) h).symm
  exact (gather_apply (fun t : Fin 8 => out0_6 (iblk m c 0 t) (iblk m c 1 t) (iblk m c 2 t) (iblk m c 3 t) (iblk m c 4 t)) t y0 y1 y2).symm

/-- The array of scores after the run is gathered from the blocks. -/
theorem final7 : (dats m 0 c).arrAt 7 cfg0.N = gather fun t : Fin 8 =>
    out0_7 (iblk m c 0 t) (iblk m c 1 t) (iblk m c 2 t) (iblk m c 3 t) (iblk m c 4 t) := by
  refine (dats m 0 c).arrAt_eq_of_covers 7 _ (by decide +kernel) fun t hf y => ?_
  blk_simp
  rw [after0_7]
  idx_vars y
  have h : ((View.whole main_v3_2).slice (win0_7.rect t)).emb (ix3 y0 y1 y2) = ix3 (imageAt t y0) y1 y2 := by
    blk_ext [idx t, imageAt]
  refine Eq.trans ?_ (congrArg (gather _) h).symm
  exact (gather_apply (fun t : Fin 8 => out0_7 (iblk m c 0 t) (iblk m c 1 t) (iblk m c 2 t) (iblk m c 3 t) (iblk m c 4 t)) t y0 y1 y2).symm

end Cert.Proof.Arrays

end
-- ==== Proof.Reference.lean ====
/- The reference's three results read at an index: the scores, and from each row of scores the softmax's first and
   second place by number and by weight. -/
module

public import proofs.«01_k».proof.Proof.Gen.ReferenceIdeal.Run
public import proofs.«01_k».proof.Proof.Block
public import proofs.«01_k».proof.Proof.Sum

@[expose] public section

set_option maxRecDepth 16384

noncomputable section

namespace Cert.Proof.Reference

open Cert.ReferenceIdeal Cert.ReferenceIdeal.Gen Idealize.ShloMosaic Cert.Proof.Row Cert.Proof.Sum
open Cert.Proof.Block (weight placeWord eps)

/-- The reference's scores, from the images and the experts' weights. -/
def scores (x : FVec Ideal S64x768x24x24 .f32) (w : FVec Ideal S16x768x4x4 .f32) : FVec Ideal S64x36x16 .f32 :=
  Host.dotGeneral dot_S64x36x12288_S12288x16_S64x36x16_2_0_01_1_n_n none (shapeCast _ (transpose S64x6x6x768x4x4 [0, 2, 4, 1, 3, 5] (shapeCast _ x shapeCasts_S64x768x24x24_S64x768x6x4x6x4) transposes_S64x768x6x4x6x4_S64x6x6x768x4x4_0_2_4_1_3_5) shapeCasts_S64x6x6x768x4x4_S64x36x12288) (transpose S12288x16 [1, 0] (shapeCast _ w shapeCasts_S16x768x4x4_S16x12288) transposes_S16x12288_S12288x16_1_0)

/-- The exponentials of the scores, each less its row's greatest. -/
def powers (z : FVec Ideal S64x36x16 .f32) : FVec Ideal S64x36x16 .f32 :=
  Host.exp (subf z (broadcastInDim S64x36x16 ![0, 1, 2] bcast_S64x36x1_S64x36x16_0_1_2 (broadcastInDim S64x36x1 ![0, 1] bcast_S64x36_S64x36x1_0_1 (maximumf (broadcastInDim S64x36 ![] bcast_S_S64x36 (constant S_ .f32 0xFF800000#32)) (Host.reduce FloatOps.maximumf z (constant S_ .f32 0xFF800000#32) reducesTo_S64x36x16_S64x36_d2 h_S_)))))

/-- The softmax of the scores along the experts. -/
def probs (z : FVec Ideal S64x36x16 .f32) : FVec Ideal S64x36x16 .f32 :=
  Host.divf (powers z) (broadcastInDim S64x36x16 ![0, 1, 2] bcast_S64x36x1_S64x36x16_0_1_2 (broadcastInDim S64x36x1 ![0, 1] bcast_S64x36_S64x36x1_0_1 (Host.reduceAdd (powers z) (constant S_ .f32 0x00000000#32) reducesTo_S64x36x16_S64x36_d2 h_S_)))

/-- The two greatest probabilities and their numbers. -/
def tops (p : FVec Ideal S64x36x16 .f32) : FVec Ideal S64x36x2 .f32 × IVec S64x36x2 32 :=
  Host.topK S64x36x2 2 (FloatOps.cmpfTotal .gt) p sliceFits_S64x36x16_S64x36x2

/-- The two probabilities divided by their sum and the small number. -/
def weights (t : FVec Ideal S64x36x2 .f32) : FVec Ideal S64x36x2 .f32 :=
  Host.divf t (broadcastInDim S64x36x2 ![0, 1, 2] bcast_S64x36x1_S64x36x2_0_1_2 (addf (broadcastInDim S64x36x1 ![0, 1] bcast_S64x36_S64x36x1_0_1 (Host.reduceAdd t (constant S_ .f32 0x00000000#32) reducesTo_S64x36x2_S64x36_d2 h_S_)) (broadcastInDim S64x36x1 ![] bcast_S_S64x36x1 (constant S_ .f32 0x3089705F#32))))

/-- The row of an image and a patch. -/
def rowOf (z : FVec Ideal S64x36x16 .f32) (b : Fin 64) (q : Fin 36) (e : Fin 16) : EReal := z (ix3 b q e)

/-- A score of the reference is the sum over channels and places of a patch's products with an expert's weights. -/
theorem scores_apply (x : FVec Ideal S64x768x24x24 .f32) (w : FVec Ideal S16x768x4x4 .f32) (b : Fin 64) (q : Fin 36) (e : Fin 16) :
    rowOf (scores x w) b q e = score (fun c h k => x (ix4 b c h k)) (fun c h k => w (ix4 e c h k)) q := by
  unfold rowOf
  pointwise [scores]
  rw [sum_patch]
  unfold score
  refine Finset.sum_congr rfl fun c _ => Finset.sum_congr rfl fun kh _ => Finset.sum_congr rfl fun kw _ => ?_
  have hc : (⟨(c.val * 16 + kh.val * 4 + kw.val) / 16, by omega⟩ : Fin 768) = c := Fin.ext (by simp only; omega)
  have hh : (⟨(c.val * 16 + kh.val * 4 + kw.val) / 4 % 4, by omega⟩ : Fin 4) = kh := Fin.ext (by simp only; omega)
  have hk : (⟨(c.val * 16 + kh.val * 4 + kw.val) % 4, by omega⟩ : Fin 4) = kw := Fin.ext (by simp only; omega)
  have hr : (⟨q.val / 6 * 4 + (c.val * 16 + kh.val * 4 + kw.val) / 4 % 4, by omega⟩ : Fin 24) = Sum.rowOf q kh :=
    Fin.ext (by simp only [Sum.rowOf]; omega)
  have hl : (⟨q.val % 6 * 4 + (c.val * 16 + kh.val * 4 + kw.val) % 4, by omega⟩ : Fin 24) = colOf q kw :=
    Fin.ext (by simp only [colOf]; omega)
  rw [hc, hh, hk, hr, hl]

/-- The reference's probabilities are the softmax of each row of scores. -/
theorem probs_apply (z : FVec Ideal S64x36x16 .f32) (b : Fin 64) (q : Fin 36) : rowOf (probs z) b q = soft (rowOf z b q) := by
  funext e
  unfold rowOf
  pointwise [probs, powers]
  rw [show Ideal.ofBits .f32 4286578688#32 = (⊥ : EReal) from ofBits_least, max_eq_right bot_le]
  rfl

/-- An index of a row moved along the row. -/
theorem along_row (b : Fin 64) (q : Fin 36) (e k : Fin 16) :
    Shape.Idx.along (s := S64x36x16) (ix3 b q e) 2 k = ix3 b q k := by
  funext a
  unfold Shape.Idx.along
  fin_cases a <;> rfl

/-- The sort by "greater" along a row, cut to two entries, takes the row's first and second place. -/
theorem tops_from (p : FVec Ideal S64x36x16 .f32) (b : Fin 64) (q : Fin 36) (i j : Fin 16) (h : IsTopTwo (rowOf p b q) i j)
    (s : Fin 2) (e : Fin 16) (he : e = s.castLE (by decide)) :
    sortedFrom (fun k k' : Fin 16 => FloatOps.cmpfTotal (F := Ideal) (φ := .f32) CmpDirection.gt
        (p (Shape.Idx.along (s := S64x36x16) (ix3 b q e) 2 k)) (p (Shape.Idx.along (s := S64x36x16) (ix3 b q e) 2 k')) == 1#1) e
      = (![i, j] : Fin 2 → Fin 16) s := by
  subst he
  refine sortedFrom_eq h _ (fun k k' => ?_) (by decide) s
  rw [along_row, along_row]
  show (Ideal.cmpTotal .gt (rowOf p b q k) (rowOf p b q k') == 1#1) = _
  unfold Ideal.cmpTotal
  by_cases hlt : rowOf p b q k' < rowOf p b q k <;> simp [hlt, Ideal.cmp, CmpDirection.ordered]

/-- The reference's two greatest probabilities of a row and their numbers. -/
theorem tops_apply (p : FVec Ideal S64x36x16 .f32) (b : Fin 64) (q : Fin 36) (i j : Fin 16) (h : IsTopTwo (rowOf p b q) i j)
    (s : Fin 2) : (tops p).1 (ix3 b q s) = rowOf p b q ((![i, j] : Fin 2 → Fin 16) s)
      ∧ (tops p).2 (ix3 b q s) = placeWord i j s := by
  have key := tops_from p b q i j h s ⟨s.val, by omega⟩ rfl
  unfold tops Host.topK Host.sort2
  constructor
  · pointwise
    exact (congrArg p (along_row b q _ _)).trans (congrArg (rowOf p b q) key)
  · have h2 : ∀ (e k : Fin 16), ((Shape.Idx.along (s := S64x36x16) (ix3 b q e) 2 k) 2).val = k.val := fun e k => by
      rw [along_row]
      rfl
    pointwise
    rw [key]
    exact congrArg (BitVec.ofNat 32) (h2 _ _)

/-- The reference's weights, from the two probabilities. -/
theorem weights_apply (t : FVec Ideal S64x36x2 .f32) (b : Fin 64) (q : Fin 36) (s : Fin 2) :
    weights t (ix3 b q s) = Ideal.div (t (ix3 b q s)) (t (ix3 b q 0) + t (ix3 b q 1) + eps) := by
  pointwise [weights]
  rw [Fin.sum_univ_two]
  rfl

end Cert.Proof.Reference

end
-- ==== Proof.Agree.lean ====
/- The kernel's three result arrays are the reference's, where every image entry and every weight is a real number. -/
module

public import proofs.«01_k».proof.Proof.Arrays
public import proofs.«01_k».proof.Proof.Reference

@[expose] public section

set_option maxRecDepth 16384

noncomputable section

namespace Cert.Proof.Agree

open Cert.KernelIdeal Cert.KernelIdeal.Gen Idealize.ShloMosaic Idealize.ShloMosaic.TcCoe Idealize.SL.Sem
open Cert.Proof.Row Cert.Proof.Sum Cert.Proof.Block Cert.Proof.Arrays

variable (m : (ℓ : Loc nD τ sig) → Buf (Elt Ideal) ℓ) (c : Dev nD)

/-- The images as the kernel's memory holds them. -/
abbrev images : FVec Ideal S64x768x24x24 .f32 := m (c.tc.loc main_arg0)

/-- The experts' weights as the kernel's memory holds them. -/
abbrev experts : FVec Ideal S16x768x4x4 .f32 := m (c.tc.loc main_arg2)

/-- The reference's scores of the kernel's arguments. -/
abbrev refScores : FVec Ideal S64x36x16 .f32 := Reference.scores (images m c) (experts m c)

/-- Every image lies in a block. -/
theorem imageAt_surj (b : Fin 64) : ∃ t g : Fin 8, b = imageAt t g :=
  ⟨⟨b.val / 8, by omega⟩, ⟨b.val % 8, by omega⟩, Fin.ext (by simp only [imageAt]; omega)⟩

/-- A row of a block's scores is the reference's row. -/
theorem row_agree (t g : Fin 8) (q : Fin 36) :
    row (logits (iblk m c 0 t) (iblk m c 1 t) (iblk m c 2 t) (iblk m c 3 t) (iblk m c 4 t)) (rowAt g q)
      = Reference.rowOf (refScores m c) (imageAt t g) q :=
  funext fun e => (logits_score m c t g q e).trans (Reference.scores_apply _ _ _ q e).symm

/-- The scores agree. -/
theorem scores_agree : (dats m 0 c).arrAt 7 cfg0.N = refScores m c := by
  rw [final7]
  funext y
  idx_vars y
  obtain ⟨t, g, rfl⟩ := imageAt_surj y0
  rw [gather_apply, out7_apply]
  exact congrFun (row_agree m c t g y1) y2

variable (hx : ∀ i, ∃ r : ℝ, images m c i = r) (hw : ∀ i, ∃ r : ℝ, experts m c i = r)

include hx hw in
/-- The weights and the numbers of a patch: both programs take the softmax's first and second place. -/
theorem places_agree (t g : Fin 8) (q : Fin 36) :
    (∀ s, (dats m 0 c).arrAt 5 cfg0.N (ix3 (imageAt t g) q s)
        = Reference.weights (Reference.tops (Reference.probs (refScores m c))).1 (ix3 (imageAt t g) q s))
      ∧ ∀ s, (dats m 0 c).arrAt 6 cfg0.N (ix3 (imageAt t g) q s)
        = (Reference.tops (Reference.probs (refScores m c))).2 (ix3 (imageAt t g) q s) := by
  have hrow := row_agree m c t g q
  obtain ⟨i, j, h, h5, h6⟩ := out56_apply (iblk m c 0 t) (iblk m c 1 t) (iblk m c 2 t) (iblk m c 3 t) (iblk m c 4 t) g q
    (fun e => by
      rw [logits_score]
      exact score_real _ _ q (fun k h w => hx _) (fun k h w => hw _))
  rw [hrow, ← Reference.probs_apply] at h h5
  have htop := Reference.tops_apply (Reference.probs (refScores m c)) (imageAt t g) q i j h
  refine ⟨fun s => ?_, fun s => ?_⟩
  · rw [final5, gather_apply, h5 s, Reference.weights_apply, (htop s).1, (htop 0).1, (htop 1).1]
    rfl
  · rw [final6, gather_apply, h6 s, (htop s).2]

include hx hw in
/-- The weights agree. -/
theorem weights_agree : (dats m 0 c).arrAt 5 cfg0.N
    = Reference.weights (Reference.tops (Reference.probs (refScores m c))).1 := by
  funext y
  idx_vars y
  obtain ⟨t, g, rfl⟩ := imageAt_surj y0
  exact (places_agree m c hx hw t g y1).1 y2

include hx hw in
/-- The numbers agree. -/
theorem numbers_agree : (dats m 0 c).arrAt 6 cfg0.N = (Reference.tops (Reference.probs (refScores m c))).2 := by
  funext y
  idx_vars y
  obtain ⟨t, g, rfl⟩ := imageAt_surj y0
  exact (places_agree m c hx hw t g y1).2 y2

end Cert.Proof.Agree

end
-- ==== Proof.Finite.lean ====
/- What the precondition says of an entry: it is a real number. -/
module

public import proofs.«01_k».proof.Proof.Gen.Pre_finite
public import proofs.«01_k».proof.Proof.Softmax
public import Idealize.ShloMosaic.Lib.ReduceAll

@[expose] public section

set_option maxRecDepth 16384

noncomputable section

namespace Cert.Proof.Finite

open Cert.Pre_finite Cert.Pre_finite.Gen Idealize.ShloMosaic Cert.Proof.Row

instance : Subsingleton S_.Idx := ⟨fun _ _ => funext fun a => a.elim0⟩

/-- Below infinity in absolute value is a real number. -/
theorem real_of_abs_lt (a : EReal) (h : Ideal.cmp .olt (FloatOps.absf (F := Ideal) (φ := .f32) a) (Ideal.ofBits .f32 0x7F800000#32) = 1#1) :
    ∃ r : ℝ, a = r := by
  rw [ofBits_most] at h
  induction a with
  | bot => exfalso; revert h; simp [Ideal.cmp, FloatOps.absf]
  | top => exfalso; revert h; simp [Ideal.cmp, FloatOps.absf]
  | coe r => exact ⟨r, rfl⟩

/-- The precondition gives that every image entry and every weight is a real number. -/
theorem real_of_finite (x : FVec Ideal S64x768x24x24 .f32) (n : IVec S2 32) (w : FVec Ideal S16x768x4x4 .f32)
    (h : fn x n w = fun _ => 1#1) : (∀ i, ∃ r : ℝ, x i = r) ∧ ∀ i, ∃ r : ℝ, w i = r := by
  have h0 := congrFun h (fun a => a.elim0)
  have h1 : IntOp.andi _ _ = 1#1 := h0
  obtain ⟨hx, hw⟩ := IntOp.andi_eq_one.1 h1
  refine ⟨fun i => real_of_abs_lt _ ?_, fun i => real_of_abs_lt _ ?_⟩
  · exact Host.reduce_andi_all _ _ _ _ _ hx i
  · exact Host.reduce_andi_all _ _ _ _ _ hw i

end Cert.Proof.Finite

end
-- ==== Proof.lean ====
/- The certificate's claim: the kernel and its reference run and leave their arguments and counters as they should, and
   over the extended reals, where the arguments are finite, they end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The kernel's run: its three result arrays end as the blocks leave them, its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        r.2.mem (c.tc.loc Cert.KernelIdeal.main_v3_0) = (Cert.KernelIdeal.Gen.dats m 0 c).arrAt 5 Cert.KernelIdeal.cfg0.N
        ∧ r.2.mem (c.tc.loc Cert.KernelIdeal.main_v3_1) = (Cert.KernelIdeal.Gen.dats m 0 c).arrAt 6 Cert.KernelIdeal.cfg0.N
        ∧ r.2.mem (c.tc.loc Cert.KernelIdeal.main_v3_2) = (Cert.KernelIdeal.Gen.dats m 0 c).arrAt 7 Cert.KernelIdeal.cfg0.N
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2) :=
  (θ_run Cert.KernelIdeal.defs _ _).mono (fun r h c =>
      ⟨(h c).1 5, (h c).1 6, (h c).1 7,
        ((h c).2 Cert.KernelIdeal.main_arg0 (Pipeline.mem_restRefs_of Cert.KernelIdeal.main_arg0 (by decide) (by decide))).trans
          (Cert.KernelIdeal.Gen.V_main_arg0 m c),
        ((h c).2 Cert.KernelIdeal.main_arg1 (Pipeline.mem_restRefs_of Cert.KernelIdeal.main_arg1 (by decide) (by decide))).trans
          (Cert.KernelIdeal.Gen.V_main_arg1 m c),
        ((h c).2 Cert.KernelIdeal.main_arg2 (Pipeline.mem_restRefs_of Cert.KernelIdeal.main_arg2 (by decide) (by decide))).trans
          (Cert.KernelIdeal.Gen.V_main_arg2 m c)⟩)
    (Cert.KernelIdeal.Gen.run_main m ρ)

/-- The reference's frame: its run read at the arguments; it has no counters. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- On finite images and weights the kernel and the reference end with equal weights, numbers and scores. -/
theorem algebraic : Cert.algebraic_KernelIdeal_ReferenceIdeal_pre_finite := by
  intro m ρ m' ρ' hpre hagree
  refine ⟨_, _, _, kernel_run m ρ, ?_⟩
  refine (θ_run Cert.ReferenceIdeal.defs _ _).mono (fun r h c => ?_) (Cert.ReferenceIdeal.Value.run (F := Ideal) m' ρ')
  obtain ⟨h0, h1, h2, ha⟩ := h c
  obtain ⟨e0, -, e2⟩ := hagree c
  obtain ⟨hx, hw⟩ := Finite.real_of_finite _ _ _ (hpre c)
  refine ⟨h0.trans ?_, h1.trans ?_, h2.trans ?_, ha⟩
  · rw [Agree.weights_agree m c hx hw]
    unfold Cert.ReferenceIdeal.Value.res_main_v22
    rw [e0, e2]
    rfl
  · rw [Agree.numbers_agree m c hx hw, e0, e2]
    rfl
  · rw [Agree.scores_agree m c, e0, e2]
    rfl

/-- Everything the certificate claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
